-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x128 : Shape := ⟨3, ![4, 8192, 128]⟩
abbrev S8192x128 : Shape := ⟨2, ![8192, 128]⟩
abbrev S128x128 : Shape := ⟨2, ![128, 128]⟩
abbrev S128 : Shape := ⟨1, ![128]⟩
abbrev S1x128 : Shape := ⟨2, ![1, 128]⟩
abbrev S2x8192x128 : Shape := ⟨3, ![2, 8192, 128]⟩
abbrev S1x8192x128 : Shape := ⟨3, ![1, 8192, 128]⟩

abbrev nBuf : Space → Nat
  | .hbm => 6
  | .vmem => 7
  | .smem => 0
  | _ => 0

abbrev bufTy : (tb : Table) → Fin (tcTables nBuf tb) → BufTy
  | .hbm, ⟨0, _⟩ => ⟨S4x8192x128, .f32⟩
  | .hbm, ⟨1, _⟩ => ⟨S8192x128, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S4x8192x128, .f32⟩
  | .local _ .vmem, ⟨0, _⟩ => ⟨S2x8192x128, .f32⟩
  | .local _ .vmem, ⟨1, _⟩ => ⟨S2x8192x128, .f32⟩
  | .local _ .vmem, ⟨2, _⟩ => ⟨S8192x128, .f32⟩
  | .local _ .vmem, ⟨3, _⟩ => ⟨S128x128, .f32⟩
  | .local _ .vmem, ⟨4, _⟩ => ⟨S1x128, .f32⟩
  | .local _ .vmem, ⟨5, _⟩ => ⟨S2x8192x128, .f32⟩
  | .local _ .vmem, ⟨6, _⟩ => ⟨S2x8192x128, .f32⟩
  | _, _ => ⟨S4x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4x8192x128 : Shape := ⟨3, ![4, 8192, 128]⟩
abbrev S8192x128 : Shape := ⟨2, ![8192, 128]⟩
abbrev S128x128 : Shape := ⟨2, ![128, 128]⟩
abbrev S128 : Shape := ⟨1, ![128]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S1x1x128 : Shape := ⟨3, ![1, 1, 128]⟩
abbrev S1x8192x128 : Shape := ⟨3, ![1, 8192, 128]⟩

abbrev nBuf : Space → Nat
  | .hbm => 35
  | .vmem => 0
  | .smem => 0
  | _ => 0

abbrev bufTy : (tb : Table) → Fin (tcTables nBuf tb) → BufTy
  | .hbm, ⟨0, _⟩ => ⟨S4x8192x128, .f32⟩
  | .hbm, ⟨1, _⟩ => ⟨S8192x128, .f32⟩
  | .hbm, ⟨2, _⟩ => ⟨S128x128, .f32⟩
  | .hbm, ⟨3, _⟩ => ⟨S128, .f32⟩
  | .hbm, ⟨4, _⟩ => ⟨S8192, .i32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S8192, .i32⟩
  | .hbm, ⟨12, _⟩ => ⟨S8192x1, .i32⟩
  | .hbm, ⟨13, _⟩ => ⟨S1, .i32⟩
  | .hbm, ⟨14, _⟩ => ⟨S_, .i32⟩
  | .hbm, ⟨15, _⟩ => ⟨S8192x1, .i32⟩
  | .hbm, ⟨16, _⟩ => ⟨S8192x1, .i1⟩
  | .hbm, ⟨17, _⟩ => ⟨S1x1, .i32⟩
  | .hbm, ⟨18, _⟩ => ⟨S8192x1, .i32⟩
  | .hbm, ⟨19, _⟩ => ⟨S8192x1, .i1⟩
  | .hbm, ⟨20, _⟩ => ⟨S8192x1, .i1⟩
  | .hbm, ⟨21, _⟩ => ⟨S_, .i1⟩
  | .hbm, ⟨22, _⟩ => ⟨S8192, .i1⟩
  | .hbm, ⟨23, _⟩ => ⟨S8192x128, .f32⟩
  | .hbm, ⟨24, _⟩ => ⟨S8192x128, .i1⟩
  | .hbm, ⟨25, _⟩ => ⟨S_, .f32⟩
  | .hbm, ⟨26, _⟩ => ⟨S8192x128, .f32⟩
  | .hbm, ⟨27, _⟩ => ⟨S8192x128, .f32⟩
  | .hbm, ⟨28, _⟩ => ⟨S4x8192x128, .f32⟩
  | .hbm, ⟨29, _⟩ => ⟨S1x1x128, .f32⟩
  | .hbm, ⟨30, _⟩ => ⟨S4x8192x128, .f32⟩
  | .hbm, ⟨31, _⟩ => ⟨S4x8192x128, .f32⟩
  | .hbm, ⟨32, _⟩ => ⟨S1x8192x128, .f32⟩
  | .hbm, ⟨33, _⟩ => ⟨S4x8192x128, .f32⟩
  | .hbm, ⟨34, _⟩ => ⟨S4x8192x128, .f32⟩
  | _, _ => ⟨S4x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩

abbrev nD : Nat := 1
abbrev τ : Topo := Topo.v7x

variable {F : FTy → Type} [FloatOps F]
-- ==== Proof.Spec.lean ====
/-
  The mathematics that both programs are shown to compute, over the extended reals: the projected input plus the
  bias plus the position's row,

      out[n, l, d] = (sum over k of x[n, l, k] * w[k, d] + b[d]) + p[l, d].
-/
module

public import Idealize.ShloMosaic.Lib.Pointwise.Index
public import Idealize.ShloMosaic.PureOps.Ideal.Laws

@[expose] public section

noncomputable section

namespace Cert.Proof.Embed

open Idealize.ShloMosaic
open scoped BigOperators

/-- Row `r` of a matrix of rows of length 128 against column `d` of the weights. -/
def rowDot (row : Fin 128 → EReal) (w : (⟨2, ![128, 128]⟩ : Shape).Idx → EReal) (d : Fin 128) : EReal :=
  ∑ k : Fin 128, row k * w (ix2 k d)

/-- The embedding at batch `n`, position `l`, feature `d`. -/
def embedAt (x : (⟨3, ![4, 8192, 128]⟩ : Shape).Idx → EReal) (p : (⟨2, ![8192, 128]⟩ : Shape).Idx → EReal)
    (w : (⟨2, ![128, 128]⟩ : Shape).Idx → EReal) (b : (⟨1, ![128]⟩ : Shape).Idx → EReal)
    (n : Fin 4) (l : Fin 8192) (d : Fin 128) : EReal :=
  rowDot (fun k => x (ix3 n l k)) w d + b (ix1 d) + p (ix2 l d)

/-- The whole result array. -/
def embed (x : (⟨3, ![4, 8192, 128]⟩ : Shape).Idx → EReal) (p : (⟨2, ![8192, 128]⟩ : Shape).Idx → EReal)
    (w : (⟨2, ![128, 128]⟩ : Shape).Idx → EReal) (b : (⟨1, ![128]⟩ : Shape).Idx → EReal) :
    (⟨3, ![4, 8192, 128]⟩ : Shape).Idx → EReal :=
  fun i => embedAt x p w b (i 0) (i 1) (i 2)

end Cert.Proof.Embed

end
-- ==== Proof.Block.lean ====
/-
  What one grid step of the kernel computes, over the extended reals: from a block of two batches, the position table,
  the weights and the bias row, entry (g, l, d) of the output block is the row product plus the position entry plus the
  bias entry, added in the kernel's order.
-/
module

public import proofs.«01_k».proof.Proof.Spec
public import proofs.«01_k».proof.Proof.Gen.KernelIdeal.Frame
public import Idealize.ShloMosaic.Lib.Pipeline.Value
public import Idealize.ShloMosaic.Lib.Pointwise.Contract
public import Idealize.ShloMosaic.PureOps.Ideal.Laws

@[expose] public section

noncomputable section

namespace Cert.Proof.Embed

open Idealize.ShloMosaic
open Cert.KernelIdeal Cert.KernelIdeal.Gen
open scoped BigOperators

/-- Zero offsets on two axes. -/
theorem zeros2 : (![0, 0] : Fin 2 → Nat) = fun _ => 0 := funext fun a => by fin_cases a <;> rfl

/-- The shared addend `p + b`, the bias row laid along every position, at (l, d). -/
theorem addend_apply (p : Vec Ideal S8192x128 .f32) (b : Vec Ideal S1x128 .f32) (l : Fin 8192) (d : Fin 128) :
    k0_pay1 (F := Ideal) p b (ix2 l d) = p (ix2 l d) + b (ix2 0 d) := by
  unfold k0_pay1
  show p (ix2 l d) + broadcastTo S8192x128 (shapeCast S1x128 b shapeCasts_S1x128_S1x128) broadcasts_S1x128_S8192x128 (ix2 l d) = _
  rw [broadcastTo_apply _ _ (ix2 l d) (ix2 0 d) (by
    intro a
    match a with
    | ⟨0, _⟩ => rfl
    | ⟨1, _⟩ => rfl), shapeCast_self]

/-- The kernel's product of [8192, 128] rows by the weights, into a zero accumulator, at (l, d). -/
theorem product_apply (y : FVec Ideal S8192x128 .f32) (w : FVec Ideal S128x128 .f32) (l : Fin 8192) (d : Fin 128) :
    matmul dot_S8192x128_S128x128_S8192x128_1_0_0_1_n_n none y w (constant S8192x128 .f32 0x00000000#32) (ix2 l d)
      = rowDot (fun k => y (ix2 l k)) w d := by
  show FloatOps.matmul (F := Ideal) _ _ _ _ _ _ = _
  rw [Ideal.matmul_constant_zero_apply,
    DotDims.sum_contr₁ dot_S8192x128_S128x128_S8192x128_1_0_0_1_n_n (a := 1) rfl (K := 128) rfl]
  refine Finset.sum_congr rfl fun k _ => ?_
  congr 2
  · funext a
    match a with
    | ⟨0, _⟩ => rfl
    | ⟨1, _⟩ => rfl
  · funext a
    match a with
    | ⟨0, _⟩ => rfl
    | ⟨1, _⟩ => rfl

/-- One batch of the block, its unit axis dropped, multiplied, added to the shared addend and its unit axis put back. -/
theorem slab_apply (y : FVec Ideal S1x8192x128 .f32) (w : FVec Ideal S128x128 .f32) (q : FVec Ideal S8192x128 .f32)
    (g : Fin 1) (l : Fin 8192) (d : Fin 128) :
    shapeCast S1x8192x128 (addf (φ := .f32) (matmul (φ₁ := .f32) (φ₂ := .f32) dot_S8192x128_S128x128_S8192x128_1_0_0_1_n_n none
        (shapeCast S8192x128 y shapeCasts_S1x8192x128_S8192x128) w (constant S8192x128 .f32 0x00000000#32)) q)
      shapeCasts_S8192x128_S1x8192x128 (ix3 g l d)
      = rowDot (fun k => y (ix3 0 l k)) w d + q (ix2 l d) := by
  rw [shapeCast_apply _ _ (ix3 g l d) (ix2 l d) (by
    rw [Shape.rowMajor_val_two, Shape.rowMajor_val_three]
    have := g.isLt
    show l.val * 128 + d.val = (g.val * 8192 + l.val) * 128 + d.val
    omega)]
  show matmul (F := Ideal) _ _ _ _ _ (ix2 l d) + q (ix2 l d) = _
  rw [product_apply]
  congr 1
  unfold rowDot
  refine Finset.sum_congr rfl fun k _ => ?_
  show shapeCast S8192x128 y shapeCasts_S1x8192x128_S8192x128 (ix2 l k) * _ = _
  rw [shapeCast_apply _ _ (ix2 l k) (ix3 0 l k) (by
    rw [Shape.rowMajor_val_two, Shape.rowMajor_val_three]
    show (0 * 8192 + l.val) * 128 + k.val = l.val * 128 + k.val
    omega)]

/-- The output block as one function of the input blocks. -/
def blockOut (x : Vec Ideal S2x8192x128 .f32) (p : Vec Ideal S8192x128 .f32) (w : Vec Ideal S128x128 .f32)
    (b : Vec Ideal S1x128 .f32) : Vec Ideal S2x8192x128 .f32 :=
  fun i => rowDot (fun k => x (ix3 (i 0) (i 1) k)) w (i 2) + (p (ix2 (i 1) (i 2)) + b (ix2 0 (i 2)))

/-- Reading batch `g` of the two through the rectangle at offset `g` of the leading axis. -/
theorem slab_idx (g : Nat) (hg : g < 2) (inb : ∀ a, (![g, 0, 0] : Fin 3 → Nat) a + S1x8192x128.size a ≤ S2x8192x128.size a)
    (l : Fin 8192) (d : Fin 128) (z : Fin 1) :
    (Rect.unit (s := S2x8192x128) ![g, 0, 0] S1x8192x128.size inb).emb (ix3 z l d) = ix3 ⟨g, hg⟩ l d := by
  funext a; apply Fin.ext
  have := z.isLt
  match a with
  | ⟨0, _⟩ => show g + 1 * z.val = g; omega
  | ⟨1, _⟩ => show 0 + 1 * l.val = l.val; omega
  | ⟨2, _⟩ => show 0 + 1 * d.val = d.val; omega

/-- What the body leaves in the output window's buffer is `blockOut` of the input blocks: its two stores are the two
    batches of that block, and they cover it. -/
theorem out_eq (x : Vec Ideal S2x8192x128 .f32) (p : Vec Ideal S8192x128 .f32) (w : Vec Ideal S128x128 .f32)
    (b : Vec Ideal S1x128 .f32) : out0_4 (F := Ideal) x p w b = blockOut x p w b := by
  funext i
  unfold out0_4
  refine View.canon_apply_of_pieces (blockOut x p w b) _ ?_ i (cover0_4 _ _ i)
  have e0 : View.ld p r0_0 = p := View.ld_unit_zero zeros2 _ p
  have e1 : View.ld b r0_1 = b := View.ld_unit_zero zeros2 _ b
  have e3 : View.ld w r0_3 = w := View.ld_unit_zero zeros2 _ w
  rw [e0, e1, e3]
  intro pc hpc
  rcases List.mem_cons.mp hpc with rfl | h
  · intro j
    obtain ⟨g, l, d, rfl⟩ : ∃ (g : Fin 1) (l : Fin 8192) (d : Fin 128), j = ix3 g l d := ⟨_, _, _, eq_ix3 j⟩
    rw [slab_idx 1 (by omega)]
    refine (slab_apply _ _ _ g l d).trans ?_
    rw [addend_apply]
    show rowDot (fun k => x (r0_4.emb (ix3 (0 : Fin 1) l k))) w d + _ = _
    simp only [slab_idx 1 (by omega)]
    rfl
  · obtain rfl := List.mem_singleton.mp h
    intro j
    obtain ⟨g, l, d, rfl⟩ : ∃ (g : Fin 1) (l : Fin 8192) (d : Fin 128), j = ix3 g l d := ⟨_, _, _, eq_ix3 j⟩
    rw [slab_idx 0 (by omega)]
    refine (slab_apply _ _ _ g l d).trans ?_
    rw [addend_apply]
    show rowDot (fun k => x (r0_2.emb (ix3 (0 : Fin 1) l k))) w d + _ = _
    simp only [slab_idx 0 (by omega)]
    rfl

end Cert.Proof.Embed

end
-- ==== Proof.Array.lean ====
/-
  What the kernel's output array holds after its two grid steps, over the extended reals: step `t` stages batches
  `2 t` and `2 t + 1` of the input and the whole of the other three arrays, writes those two batches of the embedding, and
  the two steps cover the array.
-/
module

public import proofs.«01_k».proof.Proof.Block
public import proofs.«01_k».proof.Proof.Gen.KernelIdeal.Value
public import Idealize.ShloMosaic.Lib.Pipeline.ValueKit.Geometry

@[expose] public section

noncomputable section

namespace Cert.Proof.Embed

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- A step's number is 0 or 1. -/
theorem step_lt (t : Fin cfg0.N) : t.val < 2 := lt_of_lt_of_eq t.isLt N_0

/-- Batch `g` of step `t`'s block is batch `2 t + g` of the array. -/
def batchOf (t : Fin cfg0.N) (g : Fin 2) : Fin 4 := ⟨t.val * 2 + g.val, by have := step_lt t; have := g.isLt; omega⟩

/-- The block indices of the five windows at each step: the input and output windows move along the batches, the
    other three stay. -/
theorem moves (t : Fin cfg0.N) :
    win0_0.index t 0 = t.val ∧ win0_0.index t 1 = 0 ∧ win0_0.index t 2 = 0
      ∧ win0_1.index t 0 = 0 ∧ win0_1.index t 1 = 0 ∧ win0_2.index t 0 = 0 ∧ win0_2.index t 1 = 0
      ∧ win0_3.index t 0 = 0 ∧ win0_3.index t 1 = 0
      ∧ win0_4.index t 0 = t.val ∧ win0_4.index t 1 = 0 ∧ win0_4.index t 2 = 0 := by
  rcases fin_N0 t with rfl | rfl <;> decide +kernel

/-- The bias row the region finds is the bias vector with a unit axis in front. -/
theorem biasRow (c : Dev nD) (d : Fin 128) :
    V m c main_v0 (ix2 0 d) = m ((c : Thread nD τ).loc main_arg3) (ix1 d) := by
  have h : (V m c main_v0 : Vec Ideal S1x128 .f32)
      = shapeCast S1x128 (m ((c : Thread nD τ).loc main_arg3)) shapeCasts_S128_S1x128 := by
    show StableHlo.after hostOps0 (fun b => m (c, b)) (main_v0 : DevRef τ sig) = _
    unfold hostOps0
    after_results
    rfl
  refine (congrFun h _).trans (shapeCast_apply _ _ (ix2 0 d) (ix1 d) ?_)
  rw [Shape.rowMajor_val_one, Shape.rowMajor_val_two]
  show d.val = 0 * 128 + d.val
  omega

/-- The input block of step `t`. -/
theorem read_x (c : Dev nD) (t : Fin cfg0.N) (g : Fin 2) (l : Fin 8192) (k : Fin 128) :
    iblk m c 0 t (ix3 g l k) = m ((c : Thread nD τ).loc main_arg0) (ix3 (batchOf t g) l k) := by
  rw [← V_main_arg0 m c]
  unfold iblk
  rw [View.read_apply]
  show V m c main_arg0 _ = _
  obtain ⟨e0, e1, e2, -⟩ := moves t
  congr 1
  funext a; apply Fin.ext
  match a with
  | ⟨0, _⟩ => show win0_0.index t 0 * 2 + 1 * g.val = t.val * 2 + g.val; rw [e0]; omega
  | ⟨1, _⟩ => show win0_0.index t 1 * 8192 + 1 * l.val = l.val; rw [e1]; omega
  | ⟨2, _⟩ => show win0_0.index t 2 * 128 + 1 * k.val = k.val; rw [e2]; omega

/-- The position table's block is the table. -/
theorem read_p (c : Dev nD) (t : Fin cfg0.N) (l : Fin 8192) (d : Fin 128) :
    iblk m c 1 t (ix2 l d) = m ((c : Thread nD τ).loc main_arg1) (ix2 l d) := by
  rw [← V_main_arg1 m c]
  unfold iblk
  rw [View.read_apply]
  show V m c main_arg1 _ = _
  obtain ⟨-, -, -, e0, e1, -⟩ := moves t
  congr 1
  funext a; apply Fin.ext
  match a with
  | ⟨0, _⟩ => show win0_1.index t 0 * 8192 + 1 * l.val = l.val; rw [e0]; omega
  | ⟨1, _⟩ => show win0_1.index t 1 * 128 + 1 * d.val = d.val; rw [e1]; omega

/-- The weights' block is the weights. -/
theorem read_w (c : Dev nD) (t : Fin cfg0.N) (k d : Fin 128) :
    iblk m c 2 t (ix2 k d) = m ((c : Thread nD τ).loc main_arg2) (ix2 k d) := by
  rw [← V_main_arg2 m c]
  unfold iblk
  rw [View.read_apply]
  show V m c main_arg2 _ = _
  obtain ⟨-, -, -, -, -, e0, e1, -⟩ := moves t
  congr 1
  funext a; apply Fin.ext
  match a with
  | ⟨0, _⟩ => show win0_2.index t 0 * 128 + 1 * k.val = k.val; rw [e0]; omega
  | ⟨1, _⟩ => show win0_2.index t 1 * 128 + 1 * d.val = d.val; rw [e1]; omega

/-- The bias window's block is the bias row. -/
theorem read_b (c : Dev nD) (t : Fin cfg0.N) (d : Fin 128) :
    iblk m c 3 t (ix2 0 d) = m ((c : Thread nD τ).loc main_arg3) (ix1 d) := by
  rw [← biasRow m c]
  unfold iblk
  rw [View.read_apply]
  show V m c main_v0 _ = _
  obtain ⟨-, -, -, -, -, -, -, e0, e1, -⟩ := moves t
  congr 1
  funext a; apply Fin.ext
  match a with
  | ⟨0, _⟩ => show win0_3.index t 0 * 1 + 1 * 0 = 0; rw [e0]
  | ⟨1, _⟩ => show win0_3.index t 1 * 128 + 1 * d.val = d.val; rw [e1]; omega

/-- Where step `t`'s output block places its entry (g, l, d). -/
theorem place (t : Fin cfg0.N) (g : Fin 2) (l : Fin 8192) (d : Fin 128) :
    ((cfg0.win 4).blk t).view.emb (ix3 g l d) = ix3 (batchOf t g) l d := by
  obtain ⟨-, -, -, -, -, -, -, -, -, e0, e1, e2⟩ := moves t
  funext a; apply Fin.ext
  match a with
  | ⟨0, _⟩ => show win0_4.index t 0 * 2 + 1 * g.val = t.val * 2 + g.val; rw [e0]; omega
  | ⟨1, _⟩ => show win0_4.index t 1 * 8192 + 1 * l.val = l.val; rw [e1]; omega
  | ⟨2, _⟩ => show win0_4.index t 2 * 128 + 1 * d.val = d.val; rw [e2]; omega

/-- The kernel's order of the two additions against the reference's: addition of extended reals is associative and
    commutative, so `s + (p + b) = (s + b) + p`, infinities included. -/
theorem reorder (s p b : EReal) : s + (p + b) = s + b + p := by rw [add_comm p b, add_assoc]

/-- A block whose entries are those of batch `n` of the arrays gives batch `n` of the embedding. -/
theorem blockOut_eq (x : Vec Ideal S2x8192x128 .f32) (p : Vec Ideal S8192x128 .f32) (w : Vec Ideal S128x128 .f32)
    (b : Vec Ideal S1x128 .f32) (X : Vec Ideal S4x8192x128 .f32) (P : Vec Ideal S8192x128 .f32)
    (W : Vec Ideal S128x128 .f32) (B : Vec Ideal S128 .f32) (g : Fin 2) (n : Fin 4) (l : Fin 8192) (d : Fin 128)
    (hx : ∀ k, x (ix3 g l k) = X (ix3 n l k)) (hp : p (ix2 l d) = P (ix2 l d)) (hw : ∀ k, w (ix2 k d) = W (ix2 k d))
    (hb : b (ix2 0 d) = B (ix1 d)) : blockOut x p w b (ix3 g l d) = embed X P W B (ix3 n l d) := by
  have hs : rowDot (fun k => x (ix3 g l k)) w d = rowDot (fun k => X (ix3 n l k)) W d := by
    unfold rowDot
    exact Finset.sum_congr rfl fun k _ => congrArg₂ (· * ·) (hx k) (hw k)
  show rowDot (fun k => x (ix3 g l k)) w d + (p (ix2 l d) + b (ix2 0 d))
    = rowDot (fun k => X (ix3 n l k)) W d + B (ix1 d) + P (ix2 l d)
  rw [hs, hp, hb]
  exact reorder _ _ _

/-- What step `t` computes at (g, l, d) is the embedding there. -/
theorem step_apply (c : Dev nD) (t : Fin cfg0.N) (g : Fin 2) (l : Fin 8192) (d : Fin 128) :
    blockOut (iblk m c 0 t) (iblk m c 1 t) (iblk m c 2 t) (iblk m c 3 t) (ix3 g l d)
      = embed (m ((c : Thread nD τ).loc main_arg0)) (m ((c : Thread nD τ).loc main_arg1))
          (m ((c : Thread nD τ).loc main_arg2)) (m ((c : Thread nD τ).loc main_arg3)) (ix3 (batchOf t g) l d) :=
  blockOut_eq _ _ _ _ _ _ _ _ g (batchOf t g) l d (fun k => read_x m c t g l k) (read_p m c t l d)
    (fun k => read_w m c t k d) (read_b m c t d)

/-- The array after the run is the embedding of the arguments. -/
theorem final_eq (c : Dev nD) :
    (dats m 0 c).arrAt 4 cfg0.N = embed (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t _ y => ?_
  obtain ⟨g, l, d, rfl⟩ : ∃ (g : Fin 2) (l : Fin 8192) (d : Fin 128), y = ix3 g l d := ⟨_, _, _, eq_ix3 y⟩
  rw [place, ← step_apply, after0_4, out_eq]
  rfl

/-- The kernel's run, its result read as `embed` of the arguments. -/
theorem kernel_run : θ_run defs (onTc (τ := τ) (main (F := Ideal))) ⟨m, fun _ => 0, ρ⟩ fun r => ∀ c : Dev nD,
      r.2.mem ((c : Thread nD τ).loc main_v1) = embed (m ((c : Thread nD τ).loc main_arg0))
        (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_eq m c), (h c).2⟩) (Value.run_blocks (F := Ideal) m ρ)

end Cert.Proof.Embed

end
-- ==== Proof.Reference.lean ====
/-
  What the reference computes, over the extended reals: the gather of rows 0, 1, 2, ... of the position table is the
  table itself (every position is in range, so no row is replaced by the out-of-range filler), and the rest is the
  projection plus the two broadcast addends.
-/
module

public import proofs.«01_k».proof.Proof.Spec
public import proofs.«01_k».proof.Proof.Gen.ReferenceIdeal.Run
public import Idealize.ShloMosaic.Lib.Pipeline.Value
public import Idealize.ShloMosaic.Lib.Pointwise.Contract
public import Idealize.ShloMosaic.PureOps.Ideal.Laws
public import Idealize.ShloMosaic.Lib.ReduceAll

@[expose] public section

noncomputable section

namespace Cert.Proof.Embed

open Idealize.ShloMosaic
open Cert.ReferenceIdeal Cert.ReferenceIdeal.Gen
open scoped BigOperators

/-- A position below 8192 as a 32-bit word is itself as a signed number. -/
theorem toInt_position (l : Nat) (hl : l < 8192) : (BitVec.ofNat 32 l).toInt = l := by
  rw [BitVec.toInt_eq_toNat_of_lt] <;> simp only [BitVec.toNat_ofNat] <;> omega

/-- The column of gather positions as the reference prepares it: a negative position would have 8192 added, none is. -/
def positions : IVec S8192x1 32 :=
  broadcastInDim S8192x1 ![0] bcast_S8192_S8192x1_0
    (select (cmpi .slt (iotaInDim S8192 32 0) (broadcastInDim S8192 ![] bcast_S_S8192 (constantI S_ 32 0#32)))
      (addi (iotaInDim S8192 32 0) (broadcastInDim S8192 ![] bcast_S_S8192 (constantI S_ 32 8192#32)))
      (iotaInDim S8192 32 0))

/-- Position `l` is the word `l`. -/
theorem positions_apply (l : Fin 8192) (z : Fin 1) : positions (ix2 l z) = BitVec.ofNat 32 l.val := by
  unfold positions
  rw [broadcastInDim_apply _ _ _ (ix2 l z) (ix1 l) (by
    intro a
    match a with
    | ⟨0, _⟩ => rfl)]
  show Scalar.select (IntOp.cmpi .slt (BitVec.ofNat 32 l.val) 0#32) _ (BitVec.ofNat 32 l.val) = _
  have h : IntOp.cmpi .slt (BitVec.ofNat 32 l.val) 0#32 = 0#1 := by
    have hl := l.isLt
    have e := toInt_position l.val hl
    show BitVec.ofBool (decide ((BitVec.ofNat 32 l.val).toInt < 0)) = 0#1
    rw [e, decide_eq_false (by omega)]
    rfl
  rw [h]
  rfl

/-- The in-range test of every row holds. -/
theorem inRange_apply (i : S8192.Idx) :
    Host.reduce IntOp.andi (andi (cmpi .sge positions (broadcastInDim S8192x1 ![] bcast_S_S8192x1 (constantI S_ 32 0#32)))
      (cmpi .sle positions (broadcastInDim S8192x1 ![0, 1] bcast_S1x1_S8192x1_0_1
        (broadcastInDim S1x1 ![1] bcast_S1_S1x1_1 (constantI S1 32 8191#32)))))
      (constantI S_ 1 1#1) reducesTo_S8192x1_S8192_d1 h_S_ i = 1#1 := by
  refine Host.reduce_andi_one _ _ _ _ _ rfl fun j => ?_
  obtain ⟨l, z, rfl⟩ : ∃ (l : Fin 8192) (z : Fin 1), j = ix2 l z := ⟨_, _, eq_ix2 j⟩
  show IntOp.andi (IntOp.cmpi .sge (positions (ix2 l z)) 0#32) (IntOp.cmpi .sle (positions (ix2 l z)) 8191#32) = 1#1
  have hl := l.isLt
  have e := toInt_position l.val hl
  rw [positions_apply]
  have h1 : IntOp.cmpi .sge (BitVec.ofNat 32 l.val) 0#32 = 1#1 := by
    show BitVec.ofBool (decide (0 ≤ (BitVec.ofNat 32 l.val).toInt)) = 1#1
    rw [e, decide_eq_true (by omega)]
    rfl
  have h2 : IntOp.cmpi .sle (BitVec.ofNat 32 l.val) 8191#32 = 1#1 := by
    show BitVec.ofBool (decide ((BitVec.ofNat 32 l.val).toInt ≤ 8191)) = 1#1
    rw [e, decide_eq_true (by omega)]
    rfl
  rw [h1, h2]
  rfl

/-- The gather by these positions is the table itself. -/
theorem gather_apply {α : Type} (p : S8192x128.Idx → α) (l : Fin 8192) (d : Fin 128) :
    Host.gather gather_S8192x128_S8192x1_S8192x128_1_0_n_n_0_1_1128 p positions (ix2 l d) = p (ix2 l d) := by
  unfold Host.gather
  congr 1
  funext a; apply Fin.ext
  have hl := l.isLt
  match a with
  | ⟨0, _⟩ =>
    show min (positions _).toInt.toNat (8192 - 1) + 0 + 0 = l.val
    have hidx : gather_S8192x128_S8192x1_S8192x128_1_0_n_n_0_1_1128.siIdx (ix2 l d) ⟨0, by decide⟩ = ix2 l 0 := by
      funext b
      match b with
      | ⟨0, _⟩ => rfl
      | ⟨1, _⟩ => rfl
    refine (congrArg (fun q => min (positions q).toInt.toNat (8192 - 1) + 0 + 0) hidx).trans ?_
    simp only [positions_apply, toInt_position l.val hl, Int.toNat_natCast]
    omega
  | ⟨1, _⟩ => show 0 + 0 + d.val = d.val; omega

/-- A select takes the first choice wherever its mask is one. -/
theorem select_of_one {s : Shape} {α : Type} (mask : IVec s 1) (x y : s.Idx → α) (j : s.Idx) (h : mask j = 1#1) :
    select mask x y j = x j := by
  show Scalar.select (mask j) (x j) (y j) = x j
  rw [h]
  rfl

/-- So the reference's embedded positions are the table, at every entry. -/
theorem taken_apply (p : FVec Ideal S8192x128 .f32) (u : FVec Ideal S8192x128 .f32) (l : Fin 8192) (d : Fin 128) :
    select (broadcastInDim S8192x128 ![0] bcast_S8192_S8192x128_0
      (Host.reduce IntOp.andi (andi (cmpi .sge positions (broadcastInDim S8192x1 ![] bcast_S_S8192x1 (constantI S_ 32 0#32)))
        (cmpi .sle positions (broadcastInDim S8192x1 ![0, 1] bcast_S1x1_S8192x1_0_1
          (broadcastInDim S1x1 ![1] bcast_S1_S1x1_1 (constantI S1 32 8191#32)))))
        (constantI S_ 1 1#1) reducesTo_S8192x1_S8192_d1 h_S_))
      (Host.gather gather_S8192x128_S8192x1_S8192x128_1_0_n_n_0_1_1128 p positions) u (ix2 l d) = p (ix2 l d) := by
  refine (select_of_one _ _ _ _ ?_).trans (gather_apply p l d)
  rw [broadcastInDim_apply _ _ _ (ix2 l d) (ix1 l) (by
    intro a
    match a with
    | ⟨0, _⟩ => rfl)]
  exact inRange_apply _

/-- The host's product of all four batches by the weights, at (n, l, d). -/
theorem hostProduct_apply (x : FVec Ideal S4x8192x128 .f32) (w : FVec Ideal S128x128 .f32) (n : Fin 4) (l : Fin 8192) (d : Fin 128) :
    Host.dotGeneral dot_S4x8192x128_S128x128_S4x8192x128_2_0_01_1_n_n none x w (ix3 n l d)
      = rowDot (fun k => x (ix3 n l k)) w d := by
  show FloatOps.dotGeneral (F := Ideal) _ _ _ _ _ _ = _
  rw [Ideal.dotGeneral_apply,
    DotDims.sum_contr₁ dot_S4x8192x128_S128x128_S4x8192x128_2_0_01_1_n_n (a := 2) rfl (K := 128) rfl]
  refine Finset.sum_congr rfl fun k _ => ?_
  congr 2
  · funext a
    match a with
    | ⟨0, _⟩ => rfl
    | ⟨1, _⟩ => rfl
    | ⟨2, _⟩ => rfl
  · funext a
    match a with
    | ⟨0, _⟩ => rfl
    | ⟨1, _⟩ => rfl

variable (m : (ℓ : Loc nD τ sig) → Buf (Elt Ideal) ℓ) (ρ : Dev nD → PrngReg)

open Idealize.SL.Sem in
/-- The reference's run, its result read as `embed` of the arguments. -/
theorem reference_run : θ_run defs (onTc (τ := τ) (main (F := Ideal))) ⟨m, fun _ => 0, ρ⟩ fun r => ∀ c : Dev nD,
      r.2.mem ((c.tc : Thread nD τ).loc main_v8) = embed (m ((c.tc : Thread nD τ).loc main_arg0))
        (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2⟩) (Cert.ReferenceIdeal.Value.run (F := Ideal) m ρ)
  funext i
  obtain ⟨n, l, d, rfl⟩ : ∃ (n : Fin 4) (l : Fin 8192) (d : Fin 128), i = ix3 n l d := ⟨_, _, _, eq_ix3 i⟩
  refine congrArg₂ (· + ·) (congrArg₂ (· + ·) (hostProduct_apply _ _ n l d) ?_) ?_
  · refine (broadcastInDim_apply _ _ _ (ix3 n l d) (ix3 0 0 d) (by
      intro a
      match a with
      | ⟨0, _⟩ => rfl
      | ⟨1, _⟩ => rfl
      | ⟨2, _⟩ => rfl)).trans ?_
    exact broadcastInDim_apply _ _ _ (ix3 0 0 d) (ix1 d) (by
      intro a
      match a with
      | ⟨0, _⟩ => rfl)
  · refine (broadcastInDim_apply _ _ _ (ix3 n l d) (ix3 0 l d) (by
      intro a
      match a with
      | ⟨0, _⟩ => rfl
      | ⟨1, _⟩ => rfl
      | ⟨2, _⟩ => rfl)).trans ?_
    refine (broadcastInDim_apply _ _ _ (ix3 0 l d) (ix2 l d) (by
      intro a
      match a with
      | ⟨0, _⟩ => rfl
      | ⟨1, _⟩ => rfl)).trans ?_
    exact taken_apply _ _ l d

end Cert.Proof.Embed

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Array
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference ends with its arguments as launched and every semaphore counter at zero: it has no semaphores. -/
theorem reference_frame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- From equal arguments the kernel and the reference end with the same embedding in their result buffers. -/
theorem same_result : Cert.algebraic_KernelIdeal_ReferenceIdeal := by
  intro m ρ m' ρ' _ hagree
  refine ⟨fun c => Embed.embed
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Embed.kernel_run m ρ, ?_⟩
  refine (θ_run Cert.ReferenceIdeal.defs _ _).mono (fun r h c => ⟨(h c).1.trans ?_, (h c).2⟩) (Embed.reference_run m' ρ')
  obtain ⟨h0, h1, h2, h3⟩ := hagree c
  rw [h0, h1, h2, h3]

/-- All five claims: the three frames, the unchanged kernel read over the extended reals, and the equation with the
    reference. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial,
  same_result⟩

end Cert.Proof

end
